-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_buffers [hPre_buffers : Cert.Pre_buffers.Facts] (m : (ℓ : Loc Cert.KernelIdeal.nD Cert.KernelIdeal.τ Cert.KernelIdeal.sig) → Buf (Elt Ideal) ℓ) : Prop :=
  ∀ c : Dev Cert.KernelIdeal.nD,
    (Cert.Pre_buffers.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_buffers [hPre_buffers : Cert.Pre_buffers.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_buffers.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_buffers [hKernelIdeal : Cert.KernelIdeal.Facts] [hPre_buffers : Cert.Pre_buffers.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_buffers m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_buffers [hReferenceIdeal : Cert.ReferenceIdeal.Facts] [hPre_buffers : Cert.Pre_buffers.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_buffers m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_buffers [hKernelIdeal : Cert.KernelIdeal.Facts] [hReferenceIdeal : Cert.ReferenceIdeal.Facts] [hPre_buffers : Cert.Pre_buffers.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_buffers m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_v66) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_buffers : Cert.Pre_buffers.Facts),
    quiescent_Kernel (hKernel := hKernel)
    ∧ quiescent_KernelIdeal (hKernelIdeal := hKernelIdeal)
    ∧ quiescent_KernelIdeal_pre_buffers (hKernelIdeal := hKernelIdeal) (hPre_buffers := hPre_buffers)
    ∧ quiescent_ReferenceIdeal (hReferenceIdeal := hReferenceIdeal)
    ∧ quiescent_ReferenceIdeal_pre_buffers (hReferenceIdeal := hReferenceIdeal) (hPre_buffers := hPre_buffers)
    ∧ preserves_Kernel_KernelIdeal
    ∧ algebraic_KernelIdeal_ReferenceIdeal_pre_buffers (hKernelIdeal := hKernelIdeal) (hReferenceIdeal := hReferenceIdeal) (hPre_buffers := hPre_buffers)
-- ==== Pre_buffers.lean ====
abbrev S16384x128 : Shape := ⟨2, ![16384, 128]⟩
abbrev S16384x13 : Shape := ⟨2, ![16384, 13]⟩
abbrev S16384x52 : Shape := ⟨2, ![16384, 52]⟩
abbrev S13 : Shape := ⟨1, ![13]⟩
abbrev S26 : Shape := ⟨1, ![26]⟩
abbrev S_ : Shape := ⟨0, ![]⟩

class Facts : Prop where
  bcast_S_S13 : S_.BroadcastsInDim S13 (![] : Fin 0 → Fin S13.rank)
  bcast_S_S26 : S_.BroadcastsInDim S26 (![] : Fin 0 → Fin S26.rank)
  reducesTo_S13_S_d0 : S13.ReducesTo [0] S_
  h_S_ : 0 < S_.numel
  reducesTo_S26_S_d0 : S26.ReducesTo [0] S_

variable [Facts]

def fn {F : FTy → Type} [FloatOps F] (main_arg0 : FVec F S16384x128 .f32) (main_arg1 : IVec S16384x13 32) (main_arg2 : FVec F S16384x52 .f32) (main_arg3 : IVec S13 32) (main_arg4 : IVec S26 32) : IVec S_ 1 :=
  let main_v0 : IVec S13 32 := iotaInDim S13 32 0
  let main_c : IVec S_ 32 := constantI S_ 32 2#32
  let main_v1 : IVec S13 32 := broadcastInDim S13 ![] bcast_S_S13 main_c
  let main_v2 : IVec S13 32 := muli main_v1 main_v0
  let main_c_0 : IVec S_ 32 := constantI S_ 32 1#32
  let main_v3 : IVec S13 32 := broadcastInDim S13 ![] bcast_S_S13 main_c_0
  let main_v4 : IVec S13 32 := Host.shli main_v3 main_v2
  let main_v5 : IVec S26 32 := iotaInDim S26 32 0
  let main_c_1 : IVec S_ 32 := constantI S_ 32 25#32
  let main_v6 : IVec S26 32 := broadcastInDim S26 ![] bcast_S_S26 main_c_1
  let main_v7 : IVec S26 32 := subi main_v6 main_v5
  let main_c_2 : IVec S_ 32 := constantI S_ 32 1#32
  let main_v8 : IVec S26 32 := broadcastInDim S26 ![] bcast_S_S26 main_c_2
  let main_v9 : IVec S26 32 := Host.shli main_v8 main_v7
  let main_v10 : IVec S13 1 := cmpi .eq main_arg3 main_v4
  let main_c_3 : IVec S_ 1 := constantI S_ 1 1#1
  let main_v11 : IVec S_ 1 := (fun x v => Host.reduce IntOp.andi x v reducesTo_S13_S_d0 h_S_) main_v10 main_c_3
  let main_v12 : IVec S26 1 := cmpi .eq main_arg4 main_v9
  let main_c_4 : IVec S_ 1 := constantI S_ 1 1#1
  let main_v13 : IVec S_ 1 := (fun x v => Host.reduce IntOp.andi x v reducesTo_S26_S_d0 h_S_) main_v12 main_c_4
  let main_v14 : IVec S_ 1 := andi main_v11 main_v13
  main_v14
-- ==== Kernel.lean ====
abbrev S16384x128 : Shape := ⟨2, ![16384, 128]⟩
abbrev S16384x13 : Shape := ⟨2, ![16384, 13]⟩
abbrev S16384x52 : Shape := ⟨2, ![16384, 52]⟩
abbrev S13 : Shape := ⟨1, ![13]⟩
abbrev S26 : Shape := ⟨1, ![26]⟩
abbrev S16384x180 : Shape := ⟨2, ![16384, 180]⟩
abbrev S16384 : Shape := ⟨1, ![16384]⟩
abbrev S1024x128 : Shape := ⟨2, ![1024, 128]⟩
abbrev S1024x13 : Shape := ⟨2, ![1024, 13]⟩
abbrev S1024x52 : Shape := ⟨2, ![1024, 52]⟩
abbrev S1024x180 : Shape := ⟨2, ![1024, 180]⟩
abbrev S1024 : Shape := ⟨1, ![1024]⟩
abbrev S1024x1 : Shape := ⟨2, ![1024, 1]⟩
abbrev S1024x51 : Shape := ⟨2, ![1024, 51]⟩

abbrev nBuf : Space → Nat
  | .hbm => 7
  | .vmem => 10
  | .smem => 0
  | _ => 0

abbrev bufTy : (tb : Table) → Fin (tcTables nBuf tb) → BufTy
  | .hbm, ⟨0, _⟩ => ⟨S16384x128, .f32⟩
  | .hbm, ⟨1, _⟩ => ⟨S16384x13, .i32⟩
  | .hbm, ⟨2, _⟩ => ⟨S16384x52, .f32⟩
  | .hbm, ⟨3, _⟩ => ⟨S13, .i32⟩
  | .hbm, ⟨4, _⟩ => ⟨S26, .i32⟩
  | .hbm, ⟨5, _⟩ => ⟨S16384x180, .f32⟩
  | .hbm, ⟨6, _⟩ => ⟨S16384, .f32⟩
  | .local _ .vmem, ⟨0, _⟩ => ⟨S1024x128, .f32⟩
  | .local _ .vmem, ⟨1, _⟩ => ⟨S1024x128, .f32⟩
  | .local _ .vmem, ⟨2, _⟩ => ⟨S1024x13, .i32⟩
  | .local _ .vmem, ⟨3, _⟩ => ⟨S1024x13, .i32⟩
  | .local _ .vmem, ⟨4, _⟩ => ⟨S1024x52, .f32⟩
  | .local _ .vmem, ⟨5, _⟩ => ⟨S1024x52, .f32⟩
  | .local _ .vmem, ⟨6, _⟩ => ⟨S1024x180, .f32⟩
  | .local _ .vmem, ⟨7, _⟩ => ⟨S1024x180, .f32⟩
  | .local _ .vmem, ⟨8, _⟩ => ⟨S1024, .f32⟩
  | .local _ .vmem, ⟨9, _⟩ => ⟨S1024, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x13 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x52 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x180 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S16384x128 : Shape := ⟨2, ![16384, 128]⟩
abbrev S16384x13 : Shape := ⟨2, ![16384, 13]⟩
abbrev S16384x52 : Shape := ⟨2, ![16384, 52]⟩
abbrev S13 : Shape := ⟨1, ![13]⟩
abbrev S26 : Shape := ⟨1, ![26]⟩
abbrev S1x13 : Shape := ⟨2, ![1, 13]⟩
abbrev S_ : Shape := ⟨0, ![]⟩
abbrev S16384 : Shape := ⟨1, ![16384]⟩
abbrev S16384x1 : Shape := ⟨2, ![16384, 1]⟩
abbrev S1x26 : Shape := ⟨2, ![1, 26]⟩
abbrev S16384x26 : Shape := ⟨2, ![16384, 26]⟩
abbrev S425984 : Shape := ⟨1, ![425984]⟩
abbrev S851968 : Shape := ⟨1, ![851968]⟩
abbrev S425984x1 : Shape := ⟨2, ![425984, 1]⟩
abbrev S16384x180 : Shape := ⟨2, ![16384, 180]⟩

abbrev nBuf : Space → Nat
  | .hbm => 91
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S16384x13, .i32⟩
  | .hbm, ⟨2, _⟩ => ⟨S16384x52, .f32⟩
  | .hbm, ⟨3, _⟩ => ⟨S13, .i32⟩
  | .hbm, ⟨4, _⟩ => ⟨S26, .i32⟩
  | .hbm, ⟨5, _⟩ => ⟨S1x13, .i32⟩
  | .hbm, ⟨6, _⟩ => ⟨S16384x13, .i32⟩
  | .hbm, ⟨7, _⟩ => ⟨S16384x13, .i32⟩
  | .hbm, ⟨8, _⟩ => ⟨S_, .i32⟩
  | .hbm, ⟨9, _⟩ => ⟨S16384, .i32⟩
  | .hbm, ⟨10, _⟩ => ⟨S16384x1, .i32⟩
  | .hbm, ⟨11, _⟩ => ⟨S1x26, .i32⟩
  | .hbm, ⟨12, _⟩ => ⟨S16384x26, .i32⟩
  | .hbm, ⟨13, _⟩ => ⟨S16384x26, .i32⟩
  | .hbm, ⟨14, _⟩ => ⟨S16384x26, .i32⟩
  | .hbm, ⟨15, _⟩ => ⟨S_, .i32⟩
  | .hbm, ⟨16, _⟩ => ⟨S16384x26, .i32⟩
  | .hbm, ⟨17, _⟩ => ⟨S16384x26, .i1⟩
  | .hbm, ⟨18, _⟩ => ⟨S_, .f32⟩
  | .hbm, ⟨19, _⟩ => ⟨S16384, .f32⟩
  | .hbm, ⟨20, _⟩ => ⟨S26, .i32⟩
  | .hbm, ⟨21, _⟩ => ⟨S_, .i32⟩
  | .hbm, ⟨22, _⟩ => ⟨S26, .i32⟩
  | .hbm, ⟨23, _⟩ => ⟨S26, .i32⟩
  | .hbm, ⟨24, _⟩ => ⟨S_, .i32⟩
  | .hbm, ⟨25, _⟩ => ⟨S26, .i32⟩
  | .hbm, ⟨26, _⟩ => ⟨S26, .i32⟩
  | .hbm, ⟨27, _⟩ => ⟨S1x26, .i32⟩
  | .hbm, ⟨28, _⟩ => ⟨S1x26, .i32⟩
  | .hbm, ⟨29, _⟩ => ⟨S_, .i32⟩
  | .hbm, ⟨30, _⟩ => ⟨S1x26, .i32⟩
  | .hbm, ⟨31, _⟩ => ⟨S1x26, .i32⟩
  | .hbm, ⟨32, _⟩ => ⟨S16384x26, .i32⟩
  | .hbm, ⟨33, _⟩ => ⟨S16384x26, .i32⟩
  | .hbm, ⟨34, _⟩ => ⟨S16384x26, .i32⟩
  | .hbm, ⟨35, _⟩ => ⟨S1x26, .i32⟩
  | .hbm, ⟨36, _⟩ => ⟨S_, .i32⟩
  | .hbm, ⟨37, _⟩ => ⟨S1x26, .i32⟩
  | .hbm, ⟨38, _⟩ => ⟨S1x26, .i32⟩
  | .hbm, ⟨39, _⟩ => ⟨S1x26, .i32⟩
  | .hbm, ⟨40, _⟩ => ⟨S16384x26, .i32⟩
  | .hbm, ⟨41, _⟩ => ⟨S16384x26, .i32⟩
  | .hbm, ⟨42, _⟩ => ⟨S16384x26, .i32⟩
  | .hbm, ⟨43, _⟩ => ⟨S16384, .i32⟩
  | .hbm, ⟨44, _⟩ => ⟨S16384x1, .i32⟩
  | .hbm, ⟨45, _⟩ => ⟨S_, .i32⟩
  | .hbm, ⟨46, _⟩ => ⟨S16384x1, .i32⟩
  | .hbm, ⟨47, _⟩ => ⟨S16384x1, .i32⟩
  | .hbm, ⟨48, _⟩ => ⟨S16384x26, .i32⟩
  | .hbm, ⟨49, _⟩ => ⟨S16384x26, .i32⟩
  | .hbm, ⟨50, _⟩ => ⟨S425984, .i32⟩
  | .hbm, ⟨51, _⟩ => ⟨S16384x26, .i32⟩
  | .hbm, ⟨52, _⟩ => ⟨S16384x26, .i32⟩
  | .hbm, ⟨53, _⟩ => ⟨S425984, .i32⟩
  | .hbm, ⟨54, _⟩ => ⟨S851968, .f32⟩
  | .hbm, ⟨55, _⟩ => ⟨S_, .i32⟩
  | .hbm, ⟨56, _⟩ => ⟨S425984, .i32⟩
  | .hbm, ⟨57, _⟩ => ⟨S425984, .i1⟩
  | .hbm, ⟨58, _⟩ => ⟨S_, .i32⟩
  | .hbm, ⟨59, _⟩ => ⟨S425984, .i32⟩
  | .hbm, ⟨60, _⟩ => ⟨S425984, .i32⟩
  | .hbm, ⟨61, _⟩ => ⟨S425984, .i32⟩
  | .hbm, ⟨62, _⟩ => ⟨S425984x1, .i32⟩
  | .hbm, ⟨63, _⟩ => ⟨S425984, .f32⟩
  | .hbm, ⟨64, _⟩ => ⟨S425984, .f32⟩
  | .hbm, ⟨65, _⟩ => ⟨S16384x26, .f32⟩
  | .hbm, ⟨66, _⟩ => ⟨S_, .f32⟩
  | .hbm, ⟨67, _⟩ => ⟨S16384, .f32⟩
  | .hbm, ⟨68, _⟩ => ⟨S16384, .f32⟩
  | .hbm, ⟨69, _⟩ => ⟨S_, .i32⟩
  | .hbm, ⟨70, _⟩ => ⟨S425984, .i32⟩
  | .hbm, ⟨71, _⟩ => ⟨S425984, .i1⟩
  | .hbm, ⟨72, _⟩ => ⟨S_, .i32⟩
  | .hbm, ⟨73, _⟩ => ⟨S425984, .i32⟩
  | .hbm, ⟨74, _⟩ => ⟨S425984, .i32⟩
  | .hbm, ⟨75, _⟩ => ⟨S425984, .i32⟩
  | .hbm, ⟨76, _⟩ => ⟨S425984x1, .i32⟩
  | .hbm, ⟨77, _⟩ => ⟨S425984, .f32⟩
  | .hbm, ⟨78, _⟩ => ⟨S425984, .f32⟩
  | .hbm, ⟨79, _⟩ => ⟨S_, .i32⟩
  | .hbm, ⟨80, _⟩ => ⟨S425984, .i32⟩
  | .hbm, ⟨81, _⟩ => ⟨S425984, .i1⟩
  | .hbm, ⟨82, _⟩ => ⟨S_, .i32⟩
  | .hbm, ⟨83, _⟩ => ⟨S425984, .i32⟩
  | .hbm, ⟨84, _⟩ => ⟨S425984, .i32⟩
  | .hbm, ⟨85, _⟩ => ⟨S425984, .i32⟩
  | .hbm, ⟨86, _⟩ => ⟨S425984x1, .i32⟩
  | .hbm, ⟨87, _⟩ => ⟨S851968, .f32⟩
  | .hbm, ⟨88, _⟩ => ⟨S16384x52, .f32⟩
  | .hbm, ⟨89, _⟩ => ⟨S16384x180, .f32⟩
  | .hbm, ⟨90, _⟩ => ⟨S16384, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_c_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_3 : Ref sig .tc := ⟨.hbm, 29, rfl⟩
abbrev main_v19 : Ref sig .tc := ⟨.hbm, 30, rfl⟩
abbrev main_v20 : Ref sig .tc := ⟨.hbm, 31, rfl⟩
abbrev main_call0_v0 : Ref sig .tc := ⟨.hbm, 32, rfl⟩
abbrev main_call0_v1 : Ref sig .tc := ⟨.hbm, 33, rfl⟩
abbrev main_v21 : Ref sig .tc := ⟨.hbm, 34, rfl⟩
abbrev main_v22 : Ref sig .tc := ⟨.hbm, 35, rfl⟩
abbrev main_c_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_call1_v0 : Ref sig .tc := ⟨.hbm, 40, rfl⟩
abbrev main_call1_v1 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_5 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_c_6 : Ref sig .tc := ⟨.hbm, 55, rfl⟩
abbrev main_v38 : Ref sig .tc := ⟨.hbm, 56, rfl⟩
abbrev main_v39 : Ref sig .tc := ⟨.hbm, 57, rfl⟩
abbrev main_c_7 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_8 : Ref sig .tc := ⟨.hbm, 66, rfl⟩
abbrev main_v47 : Ref sig .tc := ⟨.hbm, 67, rfl⟩
abbrev main_v48 : Ref sig .tc := ⟨.hbm, 68, rfl⟩
abbrev main_c_9 : Ref sig .tc := ⟨.hbm, 69, rfl⟩
abbrev main_v49 : Ref sig .tc := ⟨.hbm, 70, rfl⟩
abbrev main_v50 : Ref sig .tc := ⟨.hbm, 71, rfl⟩
abbrev main_c_10 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_c_11 : Ref sig .tc := ⟨.hbm, 79, rfl⟩
abbrev main_v57 : Ref sig .tc := ⟨.hbm, 80, rfl⟩
abbrev main_v58 : Ref sig .tc := ⟨.hbm, 81, rfl⟩
abbrev main_c_12 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩

abbrev nD : Nat := 1
abbrev τ : Topo := Topo.v7x

variable {F : FTy → Type} [FloatOps F]
-- ==== Proof.Spec.lean ====
/-
  WHAT BOTH PROGRAMS COMPUTE, as plain functions of one row of the arguments.

  A row carries 13 categories, 128 continuous values and 52 noise values. Its categories are packed, two bits each, into
  one 32-bit word, and 26 bits of that word, read from bit 25 downwards, choose one entry of each of the 26 pairs of noise values
  (entries 2k and 2k + 1): the chosen entry is kept, the other one is multiplied by its partner.
-/
module

public import Idealize.ShloMosaic.Lib.Pointwise
public import Idealize.ShloMosaic.Lib.WordSum
public import Mathlib.Data.BitVec

@[expose] public section

noncomputable section

namespace Cert.Spec

open Idealize.ShloMosaic

/-- The word of a row: category `f` shifted left by `2 f`, all added up (wrapping at 32 bits). -/
def word (cat : Fin 13 → BitVec 32) : BitVec 32 := ∑ f : Fin 13, cat f <<< (2 * f.val)

/-- Bit `k` of a row, `k` from 0 to 25: the word's bit `25 - k`. -/
def bit (w : BitVec 32) (k : Nat) : Bool := w.getLsbD (25 - k)

/-- The two entries of pair `k`: the even one at `false`, the odd one at `true`. -/
def pairEntry (k : Fin 26) (b : Bool) : Fin 52 := ⟨2 * k.val + b.toNat, by cases b <;> simp <;> omega⟩

/-- The entry of pair `k` that the row keeps: the even one when the bit is set, else the odd one. -/
def chosen (w : BitVec 32) (k : Fin 26) : Fin 52 := pairEntry k (!bit w k.val)

/-- The entry of pair `k` that the row multiplies by the chosen one. -/
def other (w : BitVec 32) (k : Fin 26) : Fin 52 := pairEntry k (bit w k.val)

/-- Whether entry `j` is the chosen one of its pair. -/
def kept (w : BitVec 32) (j : Fin 52) : Bool := bit w (j.val / 2) == (j.val % 2 == 0)

/-- The other entry of `j`'s pair. -/
def partner (j : Fin 52) : Fin 52 := ⟨if j.val % 2 = 0 then j.val + 1 else j.val - 1, by split <;> omega⟩

/-- Entry `j` of a row's 52 results: the noise value if it is chosen, else its product with its partner's. -/
def entry (w : BitVec 32) (noise : Fin 52 → EReal) (j : Fin 52) : EReal :=
  if kept w j then noise j else noise j * noise (partner j)

/-- A row's log-probability: the logarithms of the chosen entries, added up. -/
def logp (w : BitVec 32) (noise : Fin 52 → EReal) : EReal := ∑ k : Fin 26, Ideal.log (noise (chosen w k))

/-- Half of an entry is its pair. -/
theorem pairEntry_div (k : Fin 26) (b : Bool) : (pairEntry k b).val / 2 = k.val := by
  cases b <;> simp [pairEntry] <;> omega

/-- An entry's parity tells which of the pair's two it is. -/
theorem pairEntry_mod (k : Fin 26) (b : Bool) : ((pairEntry k b).val % 2 == 0) = !b := by
  cases b <;> simp [pairEntry] <;> omega

/-- The partner of an entry is the pair's other one. -/
theorem partner_pairEntry (k : Fin 26) (b : Bool) : partner (pairEntry k b) = pairEntry k (!b) := by
  apply Fin.ext
  cases b <;> simp [pairEntry, partner]

/-- Every entry is one of the two of its pair. -/
theorem exists_pairEntry (j : Fin 52) : ∃ k b, j = pairEntry k b := by
  refine ⟨⟨j.val / 2, by omega⟩, decide (j.val % 2 = 1), Fin.ext ?_⟩
  rcases Nat.mod_two_eq_zero_or_one j.val with h | h <;> simp [pairEntry, h] <;> omega

/-- An entry is kept exactly when it is the one that the bit chooses. -/
theorem kept_pairEntry (w : BitVec 32) (k : Fin 26) (b : Bool) : kept w (pairEntry k b) = (bit w k.val == !b) := by
  unfold kept
  rw [pairEntry_div, pairEntry_mod]

/-- Distinct pairs have distinct entries, and so have the two places of a pair. -/
theorem pairEntry_inj {k k' : Fin 26} {b b' : Bool} (h : pairEntry k b = pairEntry k' b') : k = k' ∧ b = b' := by
  have hd := pairEntry_div k b
  have hm := pairEntry_mod k b
  rw [h, pairEntry_div] at hd
  rw [h, pairEntry_mod] at hm
  exact ⟨Fin.ext hd.symm, by simpa using hm.symm⟩

/-- The result at a pair's other entry: the product of that entry with the chosen one. -/
theorem entry_other (w : BitVec 32) (noise : Fin 52 → EReal) (k : Fin 26) :
    entry w noise (other w k) = noise (other w k) * noise (chosen w k) := by
  unfold entry other chosen
  rw [kept_pairEntry, partner_pairEntry]
  cases bit w k.val <;> simp

/-- The result at a pair's chosen entry: the noise value itself. -/
theorem entry_chosen (w : BitVec 32) (noise : Fin 52 → EReal) (k : Fin 26) : entry w noise (chosen w k) = noise (chosen w k) := by
  unfold entry chosen
  rw [kept_pairEntry]
  cases bit w k.val <;> simp

/-- Every entry is its pair's chosen one or its pair's other one. -/
theorem chosen_or_other (w : BitVec 32) (j : Fin 52) : ∃ k, j = chosen w k ∨ j = other w k := by
  obtain ⟨k, b, rfl⟩ := exists_pairEntry j
  refine ⟨k, ?_⟩
  unfold chosen other
  cases b <;> cases bit w k.val <;> simp

/-- No pair's other entry is any pair's chosen one. -/
theorem other_ne_chosen (w : BitVec 32) (k k' : Fin 26) : other w k ≠ chosen w k' := by
  intro h
  obtain ⟨rfl, h2⟩ := pairEntry_inj h
  cases hb : bit w k.val <;> simp [hb] at h2

/-- The pairs' other entries are distinct. -/
theorem other_inj (w : BitVec 32) {k k' : Fin 26} (h : other w k = other w k') : k = k' := (pairEntry_inj h).1

/-- A sum over the 52 entries is the sum over the 26 pairs of the two entries of the pair. -/
theorem sum_pairs (f : Fin 52 → EReal) : ∑ j, f j = ∑ k : Fin 26, (f (pairEntry k false) + f (pairEntry k true)) := by
  rw [← Equiv.sum_comp (finProdFinEquiv (m := 26) (n := 2)) f, Fintype.sum_prod_type]
  refine Finset.sum_congr rfl fun k _ => ?_
  rw [Fin.sum_univ_two]
  congr 2 <;> (apply Fin.ext; simp [finProdFinEquiv, pairEntry]; try omega)

/-- The log-probability added up over all 52 entries, those not chosen counting zero. -/
theorem logp_eq_sum (w : BitVec 32) (noise : Fin 52 → EReal) :
    ∑ j, (if kept w j then Ideal.log (noise j) else 0) = logp w noise := by
  rw [sum_pairs]
  unfold logp
  refine Finset.sum_congr rfl fun k _ => ?_
  rw [kept_pairEntry, kept_pairEntry]
  unfold chosen
  cases bit w k.val <;> simp

/-- A bit read by a shift to the right. -/
theorem shift_bit (w : BitVec 32) (n : Nat) : ((w >>> n) &&& 1#32 = 1#32) ↔ w.getLsbD n = true := by
  rw [BitVec.and_one_eq_setWidth_ofBool_getLsbD]
  simp only [BitVec.getLsbD_ushiftRight, Nat.add_zero]
  cases w.getLsbD n <;> simp

/-- A bit read by a mask of that one bit. -/
theorem mask_bit (w : BitVec 32) (n : Nat) (hn : n < 32) : w &&& (1#32 <<< n) ≠ 0#32 ↔ w.getLsbD n = true := by
  constructor
  · intro h
    by_contra hb
    refine h (BitVec.eq_of_getLsbD_eq fun i hi => ?_)
    by_cases e : i = n
    · subst e; simp [hb]
    · simp only [BitVec.getLsbD_and, BitVec.getLsbD_shiftLeft, BitVec.getLsbD_one, BitVec.getLsbD_zero]
      by_cases hlt : i < n
      · simp [hlt]
      · have : i - n ≠ 0 := by omega
        simp [this]
  · intro h e
    have := congrArg (fun v => v.getLsbD n) e
    rw [BitVec.getLsbD_and, h] at this
    simp [hn] at this

/-! ## Words -/

/-- A set's fold of the wrapping addition from zero is the sum over the set. -/
theorem fold_addi {ι : Type} (S : Finset ι) (f : ι → BitVec 32) : S.fold IntOp.addi 0#32 f = ∑ i ∈ S, f i := by
  induction S using Finset.cons_induction with
  | empty => rfl
  | cons a S ha ih => rw [Finset.fold_cons, Finset.sum_cons, ih]; rfl

/-- A selection by a word made of a truth value. -/
theorem select_ofBool {α : Type} (b : Bool) (x y : α) : Scalar.select (BitVec.ofBool b) x y = if b then x else y := by
  cases b <;> rfl

/-! ## The two result arrays -/

/-- The word of row `r` of the category array. -/
def rowWord (cat : (⟨2, ![16384, 13]⟩ : Shape).Idx → BitVec 32) (r : Fin 16384) : BitVec 32 := word fun f => cat (ix2 r f)

/-- The first result: a row's 128 continuous values, then its 52 entries. -/
def outArray (cont : (⟨2, ![16384, 128]⟩ : Shape).Idx → EReal) (cat : (⟨2, ![16384, 13]⟩ : Shape).Idx → BitVec 32)
    (noise : (⟨2, ![16384, 52]⟩ : Shape).Idx → EReal) (r : Fin 16384) (l : Fin 180) : EReal :=
  if h : l.val < 128 then cont (ix2 r (⟨l.val, h⟩ : Fin 128))
  else entry (rowWord cat r) (fun k => noise (ix2 r k)) ⟨l.val - 128, by omega⟩

/-- The first 128 columns are the continuous values, -/
theorem outArray_left (cont : (⟨2, ![16384, 128]⟩ : Shape).Idx → EReal) (cat : (⟨2, ![16384, 13]⟩ : Shape).Idx → BitVec 32)
    (noise : (⟨2, ![16384, 52]⟩ : Shape).Idx → EReal) (r : Fin 16384) (l : Fin 128) :
    outArray cont cat noise r ⟨l.val, by omega⟩ = cont (ix2 r l) := dif_pos l.isLt

/-- and the last 52 the entries. -/
theorem outArray_right (cont : (⟨2, ![16384, 128]⟩ : Shape).Idx → EReal) (cat : (⟨2, ![16384, 13]⟩ : Shape).Idx → BitVec 32)
    (noise : (⟨2, ![16384, 52]⟩ : Shape).Idx → EReal) (r : Fin 16384) (j : Fin 52) :
    outArray cont cat noise r ⟨128 + j.val, by omega⟩ = entry (rowWord cat r) (fun k => noise (ix2 r k)) j := by
  unfold outArray
  rw [dif_neg (by simp)]
  exact congrArg _ (Fin.ext (by simp))

/-- The second result: a row's log-probability. -/
def logpArray (cat : (⟨2, ![16384, 13]⟩ : Shape).Idx → BitVec 32) (noise : (⟨2, ![16384, 52]⟩ : Shape).Idx → EReal) (r : Fin 16384) : EReal :=
  logp (rowWord cat r) fun k => noise (ix2 r k)

end Cert.Spec

end
-- ==== Proof.KernelBlock.lean ====
/-
  WHAT ONE BLOCK OF THE KERNEL COMPUTES: the two vectors that the body stores, each read at a row of the block, are the row's
  52 results and its log-probability (Proof/Spec.lean) of that row's categories and noise values.
-/
module

public import proofs.«01_k».proof.Proof.Spec
public import proofs.«01_k».proof.Proof.Gen.KernelIdeal.Skeleton

@[expose] public section

set_option maxRecDepth 16384

noncomputable section

namespace Cert.KernelBlock

open Cert.KernelIdeal Cert.KernelIdeal.Gen Idealize.ShloMosaic Idealize.ShloMosaic.TcCoe

/-- The shift by which column `j` reads its bit: 25 less the column's pair, the kernel's rounding-down quotient by two decided over the 52 columns. -/
theorem column_shift : ∀ j : Fin 52,
    IntOp.subi 25#32
      (Scalar.select
        (IntOp.andi
          (IntOp.cmpi .ne
            (IntOp.subi (BitVec.setWidth 32 (IntOp.cmpi .sgt (BitVec.ofNat 32 j.val) 0#32)) (BitVec.setWidth 32 (IntOp.cmpi .slt (BitVec.ofNat 32 j.val) 0#32)))
            (Scalar.subi (Scalar.extui (Scalar.cmpi .sgt 2#32 0#32)) (Scalar.extui (Scalar.cmpi .slt 2#32 0#32))))
          (IntOp.cmpi .ne (IntOp.remsi .vector (BitVec.ofNat 32 j.val) 2#32) 0#32))
        (IntOp.subi (IntOp.divsi .vector (BitVec.ofNat 32 j.val) 2#32) 1#32)
        (IntOp.divsi .vector (BitVec.ofNat 32 j.val) 2#32))
      = BitVec.ofNat 32 (25 - j.val / 2) := by
  decide +kernel

/-- A shift to the right by a small amount is the plain one. -/
theorem shrui_small (x : BitVec 32) (n : Nat) (hn : n < 32) : IntOp.shrui .vector x (BitVec.ofNat 32 n) = x >>> n := by
  have e : (BitVec.ofNat 32 n).toNat = n := by rw [BitVec.toNat_ofNat]; omega
  unfold IntOp.shrui
  rw [if_pos (by rw [e]; exact hn), BitVec.ushiftRight_eq', e]

/-- A shift to the left by twice a category's number is the plain one. -/
theorem shli_small (x : BitVec 32) (f : Fin 13) : IntOp.shli .vector x (IntOp.muli 2#32 (BitVec.ofNat 32 f.val)) = x <<< (2 * f.val) := by
  have e : (IntOp.muli 2#32 (BitVec.ofNat 32 f.val)).toNat = 2 * f.val := by
    unfold IntOp.muli
    rw [BitVec.toNat_mul, BitVec.toNat_ofNat, BitVec.toNat_ofNat]
    omega
  unfold IntOp.shli
  rw [if_pos (by rw [e]; omega), BitVec.shiftLeft_eq', e]

/-- The bit that the body computes at a row and column: the row's word shifted down to the bit of the column's pair, masked. -/
theorem pay5 (x : Vec Ideal S1024x13 .i32) (r : Fin 1024) (j : Fin 52) :
    k0_pay5 (F := Ideal) x (ix2 r j) = (Spec.word (fun f => x (ix2 r f)) >>> (25 - j.val / 2)) &&& 1#32 := by
  pointwise [k0_pay5]
  rw [column_shift, shrui_small _ _ (by omega), Spec.fold_addi]
  unfold Spec.word
  simp only [shli_small]
  rfl

/-- Whether a column is even, as the kernel computes it. -/
theorem even_column : ∀ j : Fin 52, IntOp.cmpi .eq (IntOp.andi (BitVec.ofNat 32 j.val) 1#32) 0#32 = BitVec.ofBool (j.val % 2 == 0) := by
  decide +kernel

/-- The selecting mask at a row and column: whether the entry is its pair's chosen one. -/
theorem pay2 (x : Vec Ideal S1024x13 .i32) (r : Fin 1024) (j : Fin 52) :
    k0_pay2 (k0_pay5 (F := Ideal) x) k0_pay6 0#32 (ix2 r j) = BitVec.ofBool (Spec.kept (Spec.word fun f => x (ix2 r f)) j) := by
  pointwise [k0_pay2, k0_pay1, k0_pay6]
  rw [pay5, even_column]
  unfold Spec.kept Spec.bit
  generalize (Spec.word fun f => x (ix2 r f)) = w
  have hb : IntOp.cmpi .eq ((w >>> (25 - j.val / 2)) &&& 1#32) 1#32 = BitVec.ofBool (w.getLsbD (25 - j.val / 2)) := by
    have h := Spec.shift_bit w (25 - j.val / 2)
    unfold IntOp.cmpi
    cases hw : w.getLsbD (25 - j.val / 2)
    · rw [hw] at h
      simp only [Bool.false_eq_true, iff_false] at h
      rw [beq_eq_false_iff_ne.2 h]
    · rw [hw] at h
      simp [h.2 rfl]
  rw [hb]
  cases w.getLsbD (25 - j.val / 2) <;> cases (j.val % 2 == 0) <;> rfl

/-- THE FIRST RESULT'S 52 COLUMNS, at a row and column of the block: the row's result at that entry. -/
theorem pay3 (x : Vec Ideal S1024x13 .i32) (y : Vec Ideal S1024x52 .f32) (r : Fin 1024) (j : Fin 52) :
    k0_pay3 (F := Ideal) y (k0_pay5 (F := Ideal) x) k0_pay6 0#32 (ix2 r j)
      = Spec.entry (Spec.word fun f => x (ix2 r f)) (fun k => y (ix2 r k)) j := by
  have h2 := pay2 x r j
  generalize k0_pay5 (F := Ideal) x = v39 at h2 ⊢
  unfold k0_pay3
  show Scalar.select (k0_pay2 v39 k0_pay6 0#32 (ix2 r j)) _ _ = _
  rw [h2, Spec.select_ofBool]
  unfold Spec.entry
  refine congrArg (fun z : EReal => if Spec.kept (Spec.word fun f => x (ix2 r f)) j = true then (y (ix2 r j) : EReal) else z) ?_
  pointwise [k0_pay1, k0_pay6]
  rw [even_column, Spec.select_ofBool]
  refine Ideal.mul_congr rfl ?_
  have hj := j.isLt
  rcases Nat.mod_two_eq_zero_or_one j.val with h | h
  · rw [if_pos (by simp [h]), dif_pos (by omega)]
    exact congrArg (fun k : Fin 52 => y (ix2 r k)) (Fin.ext (by simp only [Spec.partner, h, if_pos]; omega))
  · rw [if_neg (by simp [h]), dif_neg (by omega)]
    exact congrArg (fun k : Fin 52 => y (ix2 r k)) (Fin.ext (by simp [Spec.partner, h]))

/-- THE SECOND RESULT, at a row of the block: the row's log-probability. -/
theorem pay4 (x : Vec Ideal S1024x13 .i32) (y : Vec Ideal S1024x52 .f32) (r : Fin 1024) :
    k0_pay4 (F := Ideal) y (k0_pay5 (F := Ideal) x) k0_pay6 0#32 (ix1 r)
      = Spec.logp (Spec.word fun f => x (ix2 r f)) (fun k => y (ix2 r k)) := by
  have h2 := fun j => pay2 x r j
  generalize k0_pay5 (F := Ideal) x = v39 at h2 ⊢
  pointwise [k0_pay4]
  rw [← Spec.logp_eq_sum]
  refine Finset.sum_congr rfl fun j _ => ?_
  rw [h2, Spec.select_ofBool]

end Cert.KernelBlock

end
-- ==== Proof.KernelArray.lean ====
/-
  WHAT THE KERNEL'S RESULT ARRAYS HOLD after the run: the 16 blocks of 1024 rows tile them, and each block holds the rows' results.
-/
module

public import proofs.«01_k».proof.Proof.KernelBlock
public import proofs.«01_k».proof.Proof.Gen.KernelIdeal.Value
public import Idealize.ShloMosaic.Lib.Pipeline.ValueKit

@[expose] public section

set_option maxRecDepth 16384

noncomputable section

namespace Cert.KernelArray

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- The first result array, as a function of the arguments. -/
def outOf (c : Dev nD) : Buf (Elt Ideal) ((c : Thread nD τ).loc main_v0_0) := fun i : S16384x180.Idx =>
  Spec.outArray (m ((c : Thread nD τ).loc main_arg0)) (m ((c : Thread nD τ).loc main_arg1)) (m ((c : Thread nD τ).loc main_arg2)) (i 0) (i 1)

/-- The second result array, as a function of the arguments. -/
def logpOf (c : Dev nD) : Buf (Elt Ideal) ((c : Thread nD τ).loc main_v0_1) := fun i : S16384.Idx =>
  Spec.logpArray (m ((c : Thread nD τ).loc main_arg1)) (m ((c : Thread nD τ).loc main_arg2)) (i 0)

/-- The block that each point reads or writes: the point's number along the rows. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val] :=
  (by decide +kernel : ∀ t : Fin grid0.N, _)

/-- Row `r` of point `t`'s blocks is a row of the arrays. -/
theorem row_lt (t : Fin cfg0.N) (r : Fin 1024) : t.val * 1024 + r.val < 16384 := by
  have h : t.val < 16 := t.isLt
  omega

/-- The continuous block of point `t`, at a row and column: the array's row `1024 t + r`. -/
theorem cont_block (c : Dev nD) (t : Fin cfg0.N) (r : Fin 1024) (l : Fin 128) :
    iblk m c 0 t (ix2 r l : S1024x128.Idx) = m ((c : Thread nD τ).loc main_arg0) (ix2 (⟨t.val * 1024 + r.val, row_lt t r⟩ : Fin 16384) l : S16384x128.Idx) := by
  blk_ext [iblk, V, idx t]

/-- The category block likewise, -/
theorem cat_block (c : Dev nD) (t : Fin cfg0.N) (r : Fin 1024) (l : Fin 13) :
    iblk m c 1 t (ix2 r l : S1024x13.Idx) = m ((c : Thread nD τ).loc main_arg1) (ix2 (⟨t.val * 1024 + r.val, row_lt t r⟩ : Fin 16384) l : S16384x13.Idx) := by
  blk_ext [iblk, V, idx t]

/-- and the noise block. -/
theorem noise_block (c : Dev nD) (t : Fin cfg0.N) (r : Fin 1024) (l : Fin 52) :
    iblk m c 2 t (ix2 r l : S1024x52.Idx) = m ((c : Thread nD τ).loc main_arg2) (ix2 (⟨t.val * 1024 + r.val, row_lt t r⟩ : Fin 16384) l : S16384x52.Idx) := by
  blk_ext [iblk, V, idx t]

/-- The second result's block at a row. -/
theorem logp_block (c : Dev nD) (t : Fin cfg0.N) (r : Fin 1024) :
    k0_pay4 (F := Ideal) (iblk m c 2 t) (k0_pay5 (F := Ideal) (iblk m c 1 t)) k0_pay6 0#32 (ix1 r)
      = logpOf m c (ix1 (⟨t.val * 1024 + r.val, row_lt t r⟩ : Fin 16384) : S16384.Idx) := by
  rw [KernelBlock.pay4 (iblk m c 1 t) (iblk m c 2 t) r]
  unfold logpOf Spec.logpArray Spec.rowWord
  refine congrArg₂ Spec.logp (congrArg Spec.word (funext fun f => ?_)) (funext fun k => ?_)
  · exact cat_block m c t r f
  · exact noise_block m c t r k

/-- The first result's block at a row and one of the last 52 columns. -/
theorem entry_block (c : Dev nD) (t : Fin cfg0.N) (r : Fin 1024) (j : Fin 52) :
    k0_pay3 (F := Ideal) (iblk m c 2 t) (k0_pay5 (F := Ideal) (iblk m c 1 t)) k0_pay6 0#32 (ix2 r j)
      = outOf m c (ix2 (⟨t.val * 1024 + r.val, row_lt t r⟩ : Fin 16384) (⟨128 + j.val, by omega⟩ : Fin 180) : S16384x180.Idx) := by
  rw [KernelBlock.pay3 (iblk m c 1 t) (iblk m c 2 t) r j]
  refine Eq.trans ?_ (Spec.outArray_right _ _ _ _ j).symm
  unfold Spec.rowWord
  have hc : (fun f => iblk m c 1 t (ix2 r f : S1024x13.Idx))
      = fun f => m ((c : Thread nD τ).loc main_arg1) (ix2 (⟨t.val * 1024 + r.val, row_lt t r⟩ : Fin 16384) f : S16384x13.Idx) := funext fun f => cat_block m c t r f
  have hn : (fun k => iblk m c 2 t (ix2 r k : S1024x52.Idx))
      = fun k => m ((c : Thread nD τ).loc main_arg2) (ix2 (⟨t.val * 1024 + r.val, row_lt t r⟩ : Fin 16384) k : S16384x52.Idx) := funext fun k => noise_block m c t r k
  exact congrArg₂ (fun w n => Spec.entry w n j) (congrArg Spec.word hc) hn

/-- The first result's block at a row and one of the first 128 columns. -/
theorem copied_block (c : Dev nD) (t : Fin cfg0.N) (r : Fin 1024) (l : Fin 128) :
    iblk m c 0 t (ix2 r l : S1024x128.Idx)
      = outOf m c (ix2 (⟨t.val * 1024 + r.val, row_lt t r⟩ : Fin 16384) (⟨l.val, by omega⟩ : Fin 180) : S16384x180.Idx) := by
  rw [cont_block]
  exact (Spec.outArray_left _ _ _ _ l).symm

/-- THE SECOND RESULT ARRAY holds every row's log-probability: each point writes back its rows' and the 16 blocks cover the array. -/
theorem final_logp (c : Dev nD) : (dats m 0 c).arrAt 4 cfg0.N = logpOf m c := by
  refine (dats m 0 c).arrAt_eq_of_covers 4 _ (by decide +kernel) fun t hf y => ?_
  blk_simp
  rw [after0_4]
  unfold outsAt0
  frame_out
  rw [show y = (ix1 (y 0) : S1024.Idx) from eq_ix1 y]
  refine (logp_block m c t (y 0)).trans (congrArg (logpOf m c) ?_)
  blk_ext [idx t]

/-- THE FIRST RESULT ARRAY holds every row's continuous values and entries: the two stores of a point fill its block, and the 16 blocks cover the array. -/
theorem final_out (c : Dev nD) : (dats m 0 c).arrAt 3 cfg0.N = outOf m c := by
  refine (dats m 0 c).arrAt_eq_of_covers 3 _ (by decide +kernel) fun t hf y => ?_
  blk_simp
  rw [after0_3]
  unfold outsAt0
  frame_out
  canon_tiles x h using (View.cover_of_tiledBy _ ![1024, 4] (by sl_kernel_rfl) y)
  · rw [show x = (ix2 (x 0) (x 1) : S1024x52.Idx) from eq_ix2 x]
    refine (entry_block m c t (x 0) (x 1)).trans (congrArg (outOf m c) ?_)
    blk_ext [idx t]
  · change S1024x128.Idx at x
    rw [show x = (ix2 (x 0) (x 1) : S1024x128.Idx) from eq_ix2 x]
    refine (copied_block m c t (x 0) (x 1)).trans (congrArg (outOf m c) ?_)
    blk_ext [idx t]

end Cert.KernelArray

end
-- ==== Proof.RefTerm.lean ====
/-
  THE REFERENCE'S RESULTS IN NAMED PARTS: the bits of the rows, the two positions that each bit gives in the flattened noise, the values taken
  there, and the two results made of them. Nothing is computed here; the parts are read at an index in Proof/RefIndex.lean and Proof/RefValue.lean.
-/
module

public import proofs.«01_k».proof.Proof.Spec
public import proofs.«01_k».proof.Proof.Gen.ReferenceIdeal.Run

@[expose] public section

set_option maxRecDepth 16384

noncomputable section

namespace Cert.RefTerm

open Cert.ReferenceIdeal Cert.ReferenceIdeal.Gen Idealize.ShloMosaic Idealize.ShloMosaic.TcCoe Idealize.SL.Sem

/-- The rows' words: the factors times the categories, added up. -/
def words (cat : IVec S16384x13 32) (fac : IVec S13 32) : IVec S16384 32 :=
  Host.reduce IntOp.addi (muli (broadcastInDim S16384x13 ![0, 1] bcast_S1x13_S16384x13_0_1 (broadcastInDim S1x13 ![1] bcast_S13_S1x13_1 fac)) cat)
    (constantI S_ 32 0#32) reducesTo_S16384x13_S16384_d1 h_S_

/-- The rows' bits: each word masked by each of the 26 masks, compared with zero. -/
def bits (w : IVec S16384 32) (msk : IVec S26 32) : IVec S16384x26 1 :=
  cmpi .ne
    (andi (broadcastInDim S16384x26 ![0, 1] bcast_S16384x1_S16384x26_0_1 (broadcastInDim S16384x1 ![0] bcast_S16384_S16384x1_0 w))
      (broadcastInDim S16384x26 ![0, 1] bcast_S1x26_S16384x26_0_1 (broadcastInDim S1x26 ![1] bcast_S26_S1x26_1 msk)))
    (broadcastInDim S16384x26 ![] bcast_S_S16384x26 (constantI S_ 32 0#32))

/-- Twice the pair's number. -/
def pairBase : IVec S26 32 :=
  addi (broadcastInDim S26 ![] bcast_S_S26 (constantI S_ 32 0#32)) (muli (broadcastInDim S26 ![] bcast_S_S26 (constantI S_ 32 2#32)) (iotaInDim S26 32 0))

/-- The pairs' even entries, in every row. -/
def evens : IVec S16384x26 32 :=
  broadcastInDim S16384x26 ![0, 1] bcast_S1x26_S16384x26_0_1 (broadcastInDim S1x26 ![1] bcast_S26_S1x26_1 pairBase)

/-- The pairs' odd entries, in every row. -/
def odds : IVec S16384x26 32 :=
  broadcastInDim S16384x26 ![0, 1] bcast_S1x26_S16384x26_0_1
    (addi (broadcastInDim S1x26 ![1] bcast_S26_S1x26_1 pairBase) (broadcastInDim S1x26 ![] bcast_S_S1x26 (constantI S_ 32 1#32)))

/-- Where a row begins in the flattened noise. -/
def rowBase : IVec S16384x26 32 :=
  broadcastInDim S16384x26 ![0, 1] bcast_S16384x1_S16384x26_0_1
    (muli (broadcastInDim S16384x1 ![] bcast_S_S16384x1 (constantI S_ 32 52#32)) (broadcastInDim S16384x1 ![0] bcast_S16384_S16384x1_0 (iotaInDim S16384 32 0)))

/-- The chosen entries' positions in the flattened noise. -/
def chosenAt (b : IVec S16384x26 1) : IVec S16384x26 32 := addi (select b evens odds) rowBase

/-- The other entries' positions in the flattened noise. -/
def otherAt (b : IVec S16384x26 1) : IVec S16384x26 32 := addi (select b odds evens) rowBase

/-- A table of positions flattened, a negative one wrapped around, as the column of index words that a gather or scatter takes. -/
def column (x : IVec S16384x26 32) : IVec S425984x1 32 :=
  broadcastInDim S425984x1 ![0] bcast_S425984_S425984x1_0
    (select (cmpi .slt (shapeCast S425984 x shapeCasts_S16384x26_S425984) (broadcastInDim S425984 ![] bcast_S_S425984 (constantI S_ 32 0#32)))
      (addi (shapeCast S425984 x shapeCasts_S16384x26_S425984) (broadcastInDim S425984 ![] bcast_S_S425984 (constantI S_ 32 851968#32)))
      (shapeCast S425984 x shapeCasts_S16384x26_S425984))

/-- The noise flattened. -/
def flat (noise : FVec Ideal S16384x52 .f32) : FVec Ideal S851968 .f32 := shapeCast S851968 noise shapeCasts_S16384x52_S851968

/-- The noise values taken at a table of positions. -/
def taken (noise : FVec Ideal S16384x52 .f32) (x : IVec S16384x26 32) : FVec Ideal S425984 .f32 :=
  Host.gather gather_S851968_S425984x1_S425984_n_0_n_n_0_1_1 (flat noise) (column x)

/-- The flattened noise with each other entry replaced by its product with the chosen one. -/
def replaced (noise : FVec Ideal S16384x52 .f32) (b : IVec S16384x26 1) : FVec Ideal S851968 .f32 :=
  Host.scatter scatter_S851968_S425984x1_S425984_n_0_0_1 (fun _ b => b) (flat noise) (column (otherAt b))
    (mulf (taken noise (otherAt b)) (taken noise (chosenAt b)))

/-- The first result. -/
def out (cont : FVec Ideal S16384x128 .f32) (noise : FVec Ideal S16384x52 .f32) (b : IVec S16384x26 1) : FVec Ideal S16384x180 .f32 :=
  concatenate S16384x180 1 [⟨S16384x128, cont⟩, ⟨S16384x52, shapeCast S16384x52 (replaced noise b) shapeCasts_S851968_S16384x52⟩]
    concatenates_S16384x128_S16384x52_S16384x180_d1

/-- The second result. -/
def logp (noise : FVec Ideal S16384x52 .f32) (b : IVec S16384x26 1) : FVec Ideal S16384 .f32 :=
  subf (broadcastInDim S16384 ![] bcast_S_S16384 (constant S_ .f32 0x00000000#32))
    (Host.negf (Host.reduceAdd (shapeCast S16384x26 (Host.log (taken noise (chosenAt b))) shapeCasts_S425984_S16384x26) (constant S_ .f32 0x00000000#32)
      reducesTo_S16384x26_S16384_d1 h_S_))

variable (m : (ℓ : Loc nD τ sig) → Buf (Elt Ideal) ℓ)

/-- The bits of the rows of one device's arguments. -/
def bitsOf (c : Dev nD) : IVec S16384x26 1 :=
  bits (words (m ((c.tc : Thread nD τ).loc main_arg1)) (m ((c.tc : Thread nD τ).loc main_arg3))) (m ((c.tc : Thread nD τ).loc main_arg4))

/-- The run's first result is the one named here, -/
theorem res_out (c : Dev nD) :
    Value.res_main_v65 m c = out (m ((c.tc : Thread nD τ).loc main_arg0)) (m ((c.tc : Thread nD τ).loc main_arg2)) (bitsOf m c) := by
  unfold Value.res_main_v65; rfl

/-- and so is its second. -/
theorem res_logp (c : Dev nD) :
    Value.res_main_v66 m c = logp (m ((c.tc : Thread nD τ).loc main_arg2)) (bitsOf m c) := by
  unfold Value.res_main_v66; rfl

end Cert.RefTerm

end
-- ==== Proof.RefIndex.lean ====
/-
  THE REFERENCE'S PARTS AT AN INDEX: the bits of a row, the positions in the flattened noise that they give, and the values taken there.
-/
module

public import proofs.«01_k».proof.Proof.RefTerm
public import Idealize.ShloMosaic.Lib.Routing.OpsSet

@[expose] public section

set_option maxRecDepth 16384

noncomputable section

namespace Cert.RefIndex

open Cert.ReferenceIdeal Cert.ReferenceIdeal.Gen Idealize.ShloMosaic RefTerm

/-- A row's word, when the factors are the powers of four: the sum of the shifted categories. -/
theorem words_at (cat : IVec S16384x13 32) (fac : IVec S13 32) (hfac : ∀ f : Fin 13, fac (ix1 f) = 1#32 <<< (2 * f.val)) (r : Fin 16384) :
    words cat fac (ix1 r) = Spec.rowWord cat r := by
  pointwise [words]
  rw [Spec.fold_addi]
  unfold Spec.rowWord Spec.word
  refine Finset.sum_congr rfl fun f _ => ?_
  rw [hfac, ← BitVec.mul_twoPow_eq_shiftLeft (cat (ix2 r f)), BitVec.mul_comm]
  rfl

/-- A row's bit, when the masks are the powers of two from 2 ^ 25 downwards. -/
theorem bits_at (w : IVec S16384 32) (msk : IVec S26 32) (hmsk : ∀ k : Fin 26, msk (ix1 k) = 1#32 <<< (25 - k.val)) (r : Fin 16384) (k : Fin 26) :
    bits w msk (ix2 r k) = BitVec.ofBool (Spec.bit (w (ix1 r)) k.val) := by
  pointwise [bits]
  rw [hmsk]
  have h := Spec.mask_bit (w (ix1 r)) (25 - k.val) (by omega)
  unfold Spec.bit IntOp.cmpi IntOp.andi
  cases hw : (w (ix1 r)).getLsbD (25 - k.val)
  · rw [hw] at h
    have h' : w (ix1 r) &&& 1#32 <<< (25 - k.val) = 0#32 := by simpa using h
    rw [h']; rfl
  · rw [hw] at h
    have h' := h.2 rfl
    rw [bne_iff_ne.2 h']

/-- Entry `j` of row `r` in the flattened noise. -/
def pos (r : Fin 16384) (j : Fin 52) : Fin 851968 := ⟨r.val * 52 + j.val, by omega⟩

/-- Distinct entries have distinct positions. -/
theorem pos_inj {r r' : Fin 16384} {j j' : Fin 52} (h : pos r j = pos r' j') : r = r' ∧ j = j' := by
  have e : r.val * 52 + j.val = r'.val * 52 + j'.val := congrArg Fin.val h
  have := j.isLt
  have := j'.isLt
  exact ⟨Fin.ext (by omega), Fin.ext (by omega)⟩

/-- The flattened noise at an entry's position. -/
theorem flat_at (noise : FVec Ideal S16384x52 .f32) (r : Fin 16384) (j : Fin 52) : flat noise (ix1 (pos r j)) = noise (ix2 r j) := by
  pointwise [flat]
  refine congrArg noise ((ix2_inj ..).2 ⟨Fin.ext ?_, Fin.ext ?_⟩) <;> simp only [pos] <;> omega

/-- The chosen entry's position, as a word. -/
theorem chosenAt_at (b : IVec S16384x26 1) (r : Fin 16384) (k : Fin 26) (w : BitVec 32) (hb : b (ix2 r k) = BitVec.ofBool (Spec.bit w k.val)) :
    chosenAt b (ix2 r k) = BitVec.ofNat 32 (pos r (Spec.chosen w k)).val := by
  pointwise [chosenAt, evens, odds, pairBase, rowBase]
  rw [hb, Spec.select_ofBool]
  have hr := r.isLt
  have hk := k.isLt
  unfold Spec.chosen Spec.pairEntry pos IntOp.addi IntOp.muli
  cases Spec.bit w k.val <;> (apply BitVec.eq_of_toNat_eq; simp; omega)

/-- The other entry's position, as a word. -/
theorem otherAt_at (b : IVec S16384x26 1) (r : Fin 16384) (k : Fin 26) (w : BitVec 32) (hb : b (ix2 r k) = BitVec.ofBool (Spec.bit w k.val)) :
    otherAt b (ix2 r k) = BitVec.ofNat 32 (pos r (Spec.other w k)).val := by
  pointwise [otherAt, evens, odds, pairBase, rowBase]
  rw [hb, Spec.select_ofBool]
  have hr := r.isLt
  have hk := k.isLt
  unfold Spec.other Spec.pairEntry pos IntOp.addi IntOp.muli
  cases Spec.bit w k.val <;> (apply BitVec.eq_of_toNat_eq; simp; omega)

/-- The place of row `r`'s pair `k` among all the pairs. -/
def pair (r : Fin 16384) (k : Fin 26) : Fin 425984 := ⟨r.val * 26 + k.val, by omega⟩

/-- Every place is a row's pair. -/
theorem exists_pair (e : Fin 425984) : ∃ r k, e = pair r k :=
  ⟨⟨e.val / 26, by omega⟩, ⟨e.val % 26, by omega⟩, Fin.ext (by simp only [pair]; omega)⟩

/-- The index word of a pair, where its position is a number below 2 ^ 31: that number, no wrap taken. -/
theorem column_at (x : IVec S16384x26 32) (r : Fin 16384) (k : Fin 26) (p : Fin 851968) (hx : x (ix2 r k) = BitVec.ofNat 32 p.val) :
    column x (ix2 (pair r k) (0 : Fin 1)) = BitVec.ofNat 32 p.val := by
  pointwise [column]
  have e : (ix2 (⟨(pair r k).val / 26, by omega⟩ : Fin 16384) (⟨(pair r k).val % 26, by omega⟩ : Fin 26) : S16384x26.Idx) = ix2 r k := by
    refine (ix2_inj ..).2 ⟨Fin.ext ?_, Fin.ext ?_⟩ <;> simp only [pair] <;> omega
  rw [e, hx]
  refine Routing.wrap_of_lt _ _ ?_
  rw [BitVec.toNat_ofNat]
  have := p.isLt
  omega

/-- The value taken at a pair whose position is entry `j` of a row: that noise value. -/
theorem taken_at (noise : FVec Ideal S16384x52 .f32) (x : IVec S16384x26 32) (r : Fin 16384) (k : Fin 26) (j : Fin 52)
    (hx : x (ix2 r k) = BitVec.ofNat 32 (pos r j).val) : taken noise x (ix1 (pair r k)) = noise (ix2 r j) := by
  unfold taken
  refine (Routing.gather_take1 gather_S851968_S425984x1_S425984_n_0_n_n_0_1_1 rfl rfl rfl rfl (flat noise) (column x) (pair r k) (pos r j)
    (column_at x r k _ hx) (by norm_num)).trans (flat_at noise r j)

/-- Where update `e` of the scatter lands: at the position that its index word, read signed, names. -/
theorem lands (idx : IVec S425984x1 32) (e : Fin 425984) (p : Fin 851968) :
    scatter_S851968_S425984x1_S425984_n_0_0_1.resultIdx? (ix1 e) idx = some (ix1 p) ↔ (idx (ix2 e (0 : Fin 1))).toInt = (p.val : Int) := by
  refine (Routing.resultIdx?_ix1 scatter_S851968_S425984x1_S425984_n_0_0_1 (ix1 e) idx p).trans ?_
  have hw : scatter_S851968_S425984x1_S425984_n_0_0_1.window (ix1 e) 0 = 0 := rfl
  have hs : scatter_S851968_S425984x1_S425984_n_0_0_1.start (ix1 e) idx 0 = (idx (ix2 e (0 : Fin 1))).toInt := by
    unfold ScatterDims.start
    rw [dif_pos (show 0 ∈ scatter_S851968_S425984x1_S425984_n_0_0_1.scatterDimsToOperandDims from List.mem_singleton.2 rfl)]
    refine congrArg (fun i => (idx i).toInt) (funext fun a => ?_)
    match a with
    | ⟨0, _⟩ => rfl
    | ⟨1, _⟩ => rfl
  rw [hw, hs]
  simp

end Cert.RefIndex

end
-- ==== Proof.RefValue.lean ====
/-
  WHAT THE REFERENCE COMPUTES: each of its two results, read at a row, is the row's result (Proof/Spec.lean), whenever its bits are those of the row's word.
-/
module

public import proofs.«01_k».proof.Proof.RefIndex

@[expose] public section

set_option maxRecDepth 16384

noncomputable section

namespace Cert.RefValue

open Cert.ReferenceIdeal Cert.ReferenceIdeal.Gen Idealize.ShloMosaic RefTerm RefIndex

variable (noise : FVec Ideal S16384x52 .f32) (b : IVec S16384x26 1)

/-- THE FIRST RESULT, one of its first 128 columns: the continuous value. -/
theorem out_left (cont : FVec Ideal S16384x128 .f32) (r : Fin 16384) (l : Fin 180) (h : l.val < 128) :
    out cont noise b (ix2 r l) = cont (ix2 r (⟨l.val, h⟩ : Fin 128)) := by
  pointwise [out]
  rw [dif_pos h]

variable (w : Fin 16384 → BitVec 32) (hb : ∀ r k, b (ix2 r k) = BitVec.ofBool (Spec.bit (w r) k.val))

include hb

/-- The index word of a pair's other entry, read signed: the entry's position. -/
theorem other_word (r : Fin 16384) (k : Fin 26) :
    (column (otherAt b) (ix2 (pair r k) (0 : Fin 1))).toInt = ((pos r (Spec.other (w r) k)).val : Int) := by
  rw [column_at _ r k _ (otherAt_at b r k (w r) (hb r k))]
  have := (pos r (Spec.other (w r) k)).isLt
  rw [BitVec.toInt_eq_toNat_of_lt (by rw [BitVec.toNat_ofNat]; omega), BitVec.toNat_ofNat]
  omega

/-- What the scatter writes for a pair: its other entry times its chosen one. -/
theorem written (r : Fin 16384) (k : Fin 26) :
    mulf (taken noise (otherAt b)) (taken noise (chosenAt b)) (ix1 (pair r k))
      = (noise (ix2 r (Spec.other (w r) k)) : EReal) * noise (ix2 r (Spec.chosen (w r) k)) := by
  show (taken noise (otherAt b) (ix1 (pair r k)) : EReal) * taken noise (chosenAt b) (ix1 (pair r k)) = _
  rw [taken_at noise _ r k _ (otherAt_at b r k (w r) (hb r k)), taken_at noise _ r k _ (chosenAt_at b r k (w r) (hb r k))]

/-- The scatter's update of pair `k` of row `r` lands at entry `j` of row `r'` exactly when the rows agree and `j` is the pair's other entry. -/
theorem lands_pair (r r' : Fin 16384) (k : Fin 26) (j : Fin 52) :
    scatter_S851968_S425984x1_S425984_n_0_0_1.resultIdx? (ix1 (pair r k)) (column (otherAt b)) = some (ix1 (pos r' j))
      ↔ r = r' ∧ Spec.other (w r) k = j := by
  rw [lands, other_word b w hb]
  constructor
  · intro h
    exact pos_inj (Fin.ext (by exact_mod_cast h))
  · rintro ⟨rfl, rfl⟩
    rfl

/-- The scattered noise at an entry: the row's result at that entry. -/
theorem replaced_at (r : Fin 16384) (j : Fin 52) :
    replaced noise b (ix1 (pos r j)) = Spec.entry (w r) (fun k => noise (ix2 r k)) j := by
  unfold replaced
  obtain ⟨k, rfl | rfl⟩ := Spec.chosen_or_other (w r) j
  · rw [Spec.entry_chosen]
    refine (Routing.scatter_set_miss _ _ _ _ _ fun u => ?_).trans (flat_at noise r _)
    obtain ⟨r', k', he⟩ := exists_pair (u 0)
    rw [show u = ix1 (pair r' k') from (eq_ix1 u).trans (congrArg ix1 he)]
    intro h
    obtain ⟨rfl, h2⟩ := (lands_pair b w hb r' r k' _).1 h
    exact Spec.other_ne_chosen _ _ _ h2
  · rw [Spec.entry_other]
    refine Routing.scatter_set_hit _ _ _ _ _ _ (fun u hu => ?_) (ix1 (pair r k)) ((lands_pair b w hb r r k _).2 ⟨rfl, rfl⟩)
    obtain ⟨r', k', he⟩ := exists_pair (u 0)
    rw [show u = ix1 (pair r' k') from (eq_ix1 u).trans (congrArg ix1 he)] at hu ⊢
    obtain ⟨rfl, h2⟩ := (lands_pair b w hb r' r k' _).1 hu
    obtain rfl := Spec.other_inj _ h2
    exact written noise b w hb r' k'

/-- THE FIRST RESULT, one of its last 52 columns: the row's result at that entry. -/
theorem out_right (cont : FVec Ideal S16384x128 .f32) (r : Fin 16384) (l : Fin 180) (h : ¬ l.val < 128) :
    out cont noise b (ix2 r l) = Spec.entry (w r) (fun k => noise (ix2 r k)) ⟨l.val - 128, by omega⟩ := by
  pointwise [out]
  rw [dif_neg h]
  exact replaced_at noise b w hb r ⟨l.val - 128, by omega⟩

/-- THE SECOND RESULT: the row's log-probability. -/
theorem logp_at (r : Fin 16384) : RefTerm.logp noise b (ix1 r) = Spec.logp (w r) fun k => noise (ix2 r k) := by
  pointwise [RefTerm.logp]
  rw [zero_sub, neg_neg]
  unfold Spec.logp
  refine Finset.sum_congr rfl fun k _ => congrArg Ideal.log ?_
  exact taken_at noise _ r k _ (chosenAt_at b r k (w r) (hb r k))

end Cert.RefValue

end
-- ==== Proof.Agree.lean ====
/-
  BOTH RESULTS OF THE REFERENCE ARE THE ARRAYS OF Proof/Spec.lean, from arguments whose two tables hold the powers of two.
-/
module

public import proofs.«01_k».proof.Proof.RefValue

@[expose] public section

set_option maxRecDepth 16384

noncomputable section

namespace Cert.Agree

open Cert.ReferenceIdeal Cert.ReferenceIdeal.Gen Idealize.ShloMosaic Idealize.ShloMosaic.TcCoe Idealize.SL.Sem

variable (cont : FVec Ideal S16384x128 .f32) (cat : IVec S16384x13 32) (noise : FVec Ideal S16384x52 .f32) (fac : IVec S13 32) (msk : IVec S26 32)
  (hfac : ∀ f : Fin 13, fac (ix1 f) = 1#32 <<< (2 * f.val)) (hmsk : ∀ k : Fin 26, msk (ix1 k) = 1#32 <<< (25 - k.val))

include hfac hmsk

/-- The reference's bit of a row and pair is that of the row's word. -/
theorem bit_at (r : Fin 16384) (k : Fin 26) :
    RefTerm.bits (RefTerm.words cat fac) msk (ix2 r k) = BitVec.ofBool (Spec.bit (Spec.rowWord cat r) k.val) := by
  rw [RefIndex.bits_at _ msk hmsk, RefIndex.words_at cat fac hfac]

/-- The first result, as an array. -/
theorem out_eq : RefTerm.out cont noise (RefTerm.bits (RefTerm.words cat fac) msk) = fun i => Spec.outArray cont cat noise (i 0) (i 1) := by
  funext i
  obtain ⟨r, l, rfl⟩ : ∃ (r : Fin 16384) (l : Fin 180), i = (ix2 r l : S16384x180.Idx) := ⟨i 0, i 1, eq_ix2 i⟩
  show _ = Spec.outArray cont cat noise r l
  by_cases h : l.val < 128
  · rw [RefValue.out_left noise _ cont r l h]
    exact (Spec.outArray_left cont cat noise r ⟨l.val, h⟩).symm
  · rw [RefValue.out_right noise _ (Spec.rowWord cat) (bit_at cat fac msk hfac hmsk) cont r l h]
    unfold Spec.outArray
    rw [dif_neg h]

/-- The second result, as an array. -/
theorem logp_eq : RefTerm.logp noise (RefTerm.bits (RefTerm.words cat fac) msk) = fun i => Spec.logpArray cat noise (i 0) := by
  funext i
  obtain ⟨r, rfl⟩ : ∃ r : Fin 16384, i = (ix1 r : S16384.Idx) := ⟨i 0, eq_ix1 i⟩
  exact RefValue.logp_at noise _ (Spec.rowWord cat) (bit_at cat fac msk hfac hmsk) r

end Cert.Agree

end
-- ==== Proof.Tables.lean ====
/-
  WHAT THE PRECONDITION SAYS: the two tables that the reference reads hold the powers of two that the kernel computes by itself.
-/
module

public import proofs.«01_k».proof.Proof.Spec
public import proofs.«01_k».proof.Pre_buffers

@[expose] public section

set_option maxRecDepth 16384

noncomputable section

namespace Cert.Tables

open Idealize.ShloMosaic Cert.Pre_buffers

variable [Facts]

/-- The factor of category `f`, as the precondition computes it. -/
theorem factor_word : ∀ f : Fin 13, IntOp.shli .host 1#32 (IntOp.muli 2#32 (BitVec.ofNat 32 f.val)) = 1#32 <<< (2 * f.val) := by
  decide +kernel

/-- The mask of bit `k`, as the precondition computes it. -/
theorem mask_word : ∀ k : Fin 26, IntOp.shli .host 1#32 (IntOp.subi 25#32 (BitVec.ofNat 32 k.val)) = 1#32 <<< (25 - k.val) := by
  decide +kernel

/-- A conjunction of two bits is set only if both are. -/
theorem andi_one : ∀ a b : BitVec 1, IntOp.andi a b = 1#1 → a = 1#1 ∧ b = 1#1 := by decide

/-- A conjunction over a set is set only if every member's bit is. -/
theorem fold_andi {ι : Type} (S : Finset ι) (f : ι → BitVec 1) (h : S.fold IntOp.andi 1#1 f = 1#1) : ∀ i ∈ S, f i = 1#1 := by
  induction S using Finset.cons_induction with
  | empty => simp
  | cons a S ha ih =>
    rw [Finset.fold_cons] at h
    have h2 := andi_one _ _ h
    intro i hi
    rcases Finset.mem_cons.1 hi with rfl | hi
    · exact h2.1
    · exact ih h2.2 i hi

/-- Words that compare equal are equal. -/
theorem eq_of_cmpi {x y : BitVec 32} (h : IntOp.cmpi .eq x y = 1#1) : x = y := by
  by_contra hne
  have h' : BitVec.ofBool (x == y) = 1#1 := h
  rw [show (x == y) = false from beq_eq_false_iff_ne.2 hne] at h'
  exact absurd h' (by decide)

/-- THE TABLES, given the precondition: factor `f` is 4 to the `f`, mask `k` is 2 to the `25 - k`. -/
theorem values (x0 : FVec Ideal S16384x128 .f32) (x1 : IVec S16384x13 32) (x2 : FVec Ideal S16384x52 .f32) (fac : IVec S13 32) (msk : IVec S26 32)
    (h : fn (F := Ideal) x0 x1 x2 fac msk = fun _ => 1#1) :
    (∀ f : Fin 13, fac (ix1 f) = 1#32 <<< (2 * f.val)) ∧ ∀ k : Fin 26, msk (ix1 k) = 1#32 <<< (25 - k.val) := by
  have h0 := congrFun h ix0
  dsimp only [fn] at h0
  pointwise at h0
  have h1 := andi_one _ _ h0
  exact ⟨fun f => (eq_of_cmpi (fold_andi _ _ h1.1 f (Finset.mem_univ f))).trans (factor_word f),
    fun k => (eq_of_cmpi (fold_andi _ _ h1.2 k (Finset.mem_univ k))).trans (mask_word k)⟩

end Cert.Tables

end
-- ==== Proof.lean ====
/-
  THE CERTIFICATE: the kernel, its idealization and the reference run and leave their arguments unchanged and their semaphores at zero, and the
  idealized kernel's two results equal the reference's. The value claim goes through the arrays of Proof/Spec.lean: the kernel's result arrays hold
  them (Proof/KernelArray.lean), and so do the reference's (Proof/Agree.lean), the precondition giving the two tables (Proof/Tables.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal
public import proofs.«01_k».proof.Proof.Gen.Pre_buffers
public import proofs.«01_k».proof.Proof.KernelArray
public import proofs.«01_k».proof.Proof.Agree
public import proofs.«01_k».proof.Proof.Tables
public import Idealize.ShloMosaic.Adequacy
public import Idealize.ShloMosaic.Init
public import Idealize.ShloMosaic.Lib.Quiescent

@[expose] public section

noncomputable section

namespace Cert.Proof

open Idealize.ShloMosaic Idealize.SL.Sem

/-- The reference runs, keeps its arguments and, having no semaphore, ends with every counter at zero. -/
theorem reference_frame : quiescent_ReferenceIdeal (hReferenceIdeal := Cert.ReferenceIdeal.Gen.facts) := fun m g _ =>
  (θ_run Cert.ReferenceIdeal.defs _ _).mono (fun r h => ⟨fun c => (h c).2.2, sem_eq_zero_of_no_sems (by decide) r.2⟩)
    (Cert.ReferenceIdeal.Value.run (F := Ideal) m g)

/-- The idealized kernel and the reference end with equal results, from equal arguments whose tables hold the powers of two. -/
theorem values_agree : algebraic_KernelIdeal_ReferenceIdeal_pre_buffers (hKernelIdeal := Cert.KernelIdeal.Gen.facts)
    (hReferenceIdeal := Cert.ReferenceIdeal.Gen.facts) (hPre_buffers := Cert.Pre_buffers.Gen.facts) := by
  intro m g m' g' hpre harg
  refine ⟨fun c => KernelArray.outOf m c, fun c => KernelArray.logpOf m c, ?_, ?_⟩
  · refine (θ_run Cert.KernelIdeal.defs _ _).mono (fun r h c => ?_) (Cert.KernelIdeal.Value.run_blocks m g)
    exact ⟨(h c).1.trans (KernelArray.final_out m c), (h c).2.1.trans (KernelArray.final_logp m c), (h c).2.2⟩
  · refine (θ_run Cert.ReferenceIdeal.defs _ _).mono (fun r h c => ?_) (Cert.ReferenceIdeal.Value.run (F := Ideal) m' g')
    obtain ⟨h0, h1, h2, h3, h4⟩ := harg c
    have ht := @Tables.values Cert.Pre_buffers.Gen.facts _ _ _ _ _ (hpre c)
    refine ⟨(h c).1.trans ?_, (h c).2.1.trans ?_, (h c).2.2⟩
    · refine (RefTerm.res_out m' c).trans ?_
      unfold RefTerm.bitsOf
      rw [h0, h1, h2, h3, h4]
      exact Agree.out_eq _ _ _ _ _ ht.1 ht.2
    · refine (RefTerm.res_logp m' c).trans ?_
      unfold RefTerm.bitsOf
      rw [h1, h2, h3, h4]
      exact Agree.logp_eq _ _ _ _ ht.1 ht.2

/-- Everything the certificate claims. -/
theorem claim : Cert.Claim :=
  ⟨Cert.Kernel.Gen.facts, Cert.KernelIdeal.Gen.facts, Cert.ReferenceIdeal.Gen.facts, Cert.Pre_buffers.Gen.facts,
    fun m g _ => Cert.Kernel.Gen.frame m g, fun m g _ => Cert.KernelIdeal.Gen.frame m g, fun m g _ => Cert.KernelIdeal.Gen.frame m g,
    reference_frame, fun m g _ => reference_frame m g trivial, trivial, values_agree⟩

end Cert.Proof

end
